-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_and_finite [hPre_tokens_and_finite : Cert.Pre_tokens_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_and_finite [hPre_tokens_and_finite : Cert.Pre_tokens_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tokens_and_finite [hKernelIdeal : Cert.KernelIdeal.Facts] [hPre_tokens_and_finite : Cert.Pre_tokens_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tokens_and_finite [hReferenceIdeal : Cert.ReferenceIdeal.Facts] [hPre_tokens_and_finite : Cert.Pre_tokens_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_tokens_and_finite [hKernelIdeal : Cert.KernelIdeal.Facts] [hReferenceIdeal : Cert.ReferenceIdeal.Facts] [hPre_tokens_and_finite : Cert.Pre_tokens_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tokens_and_finite : Cert.Pre_tokens_and_finite.Facts),
    quiescent_Kernel (hKernel := hKernel)
    ∧ quiescent_KernelIdeal (hKernelIdeal := hKernelIdeal)
    ∧ quiescent_KernelIdeal_pre_tokens_and_finite (hKernelIdeal := hKernelIdeal) (hPre_tokens_and_finite := hPre_tokens_and_finite)
    ∧ quiescent_ReferenceIdeal (hReferenceIdeal := hReferenceIdeal)
    ∧ quiescent_ReferenceIdeal_pre_tokens_and_finite (hReferenceIdeal := hReferenceIdeal) (hPre_tokens_and_finite := hPre_tokens_and_finite)
    ∧ preserves_Kernel_KernelIdeal
    ∧ algebraic_KernelIdeal_ReferenceIdeal_pre_tokens_and_finite (hKernelIdeal := hKernelIdeal) (hReferenceIdeal := hReferenceIdeal) (hPre_tokens_and_finite := hPre_tokens_and_finite)
-- ==== Pre_tokens_and_finite.lean ====
abbrev S64x4096 : Shape := ⟨2, ![64, 4096]⟩
abbrev S5x128 : Shape := ⟨2, ![5, 128]⟩
abbrev S128 : Shape := ⟨1, ![128]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : IVec S64x4096 32) (main_arg1 : FVec F S5x128 .f32) (main_arg2 : FVec F S128 .f32) (main_arg3 : FVec F S128 .f32) : IVec S_ 1 :=
  let main_c : IVec S_ 32 := constantI S_ 32 0#32
  let main_v0 : IVec S64x4096 32 := broadcastInDim S64x4096 ![] bcast_S_S64x4096 main_c
  let main_v1 : IVec S64x4096 1 := cmpi .sge main_arg0 main_v0
  let main_c_0 : IVec S_ 32 := constantI S_ 32 5#32
  let main_v2 : IVec S64x4096 32 := broadcastInDim S64x4096 ![] bcast_S_S64x4096 main_c_0
  let main_v3 : IVec S64x4096 1 := cmpi .slt main_arg0 main_v2
  let main_v4 : IVec S64x4096 1 := andi main_v1 main_v3
  let main_c_1 : IVec S_ 1 := constantI S_ 1 1#1
  let main_v5 : IVec S_ 1 := (fun x v => Host.reduce IntOp.andi x v reducesTo_S64x4096_S_d0_1 h_S_) main_v4 main_c_1
  let main_v6 : FVec F S5x128 .f32 := Host.absf main_arg1
  let main_cst : FVec F S_ .f32 := constant S_ .f32 0x7F800000#32
  let main_v7 : FVec F S5x128 .f32 := broadcastInDim S5x128 ![] bcast_S_S5x128 main_cst
  let main_v8 : IVec S5x128 1 := cmpf .olt main_v6 main_v7
  let main_c_2 : IVec S_ 1 := constantI S_ 1 1#1
  let main_v9 : IVec S_ 1 := (fun x v => Host.reduce IntOp.andi x v reducesTo_S5x128_S_d0_1 h_S_) main_v8 main_c_2
  let main_v10 : IVec S_ 1 := andi main_v5 main_v9
  let main_v11 : FVec F S128 .f32 := Host.absf main_arg2
  let main_cst_3 : FVec F S_ .f32 := constant S_ .f32 0x7F800000#32
  let main_v12 : FVec F S128 .f32 := broadcastInDim S128 ![] bcast_S_S128 main_cst_3
  let main_v13 : IVec S128 1 := cmpf .olt main_v11 main_v12
  let main_c_4 : IVec S_ 1 := constantI S_ 1 1#1
  let main_v14 : IVec S_ 1 := (fun x v => Host.reduce IntOp.andi x v reducesTo_S128_S_d0 h_S_) main_v13 main_c_4
  let main_v15 : IVec S_ 1 := andi main_v10 main_v14
  main_v15
-- ==== Kernel.lean ====
abbrev S64x4096 : Shape := ⟨2, ![64, 4096]⟩
abbrev S5x128 : Shape := ⟨2, ![5, 128]⟩
abbrev S128 : Shape := ⟨1, ![128]⟩
abbrev S_ : Shape := ⟨0, ![]⟩
abbrev S8x128 : Shape := ⟨2, ![8, 128]⟩
abbrev S1 : Shape := ⟨1, ![1]⟩
abbrev S1x128 : Shape := ⟨2, ![1, 128]⟩
abbrev S1x64x4096 : Shape := ⟨3, ![1, 64, 4096]⟩
abbrev S1x1x1 : Shape := ⟨3, ![1, 1, 1]⟩
abbrev S64x32x128 : Shape := ⟨3, ![64, 32, 128]⟩
abbrev S64x4096x128 : Shape := ⟨3, ![64, 4096, 128]⟩
abbrev S1x32x128 : Shape := ⟨3, ![1, 32, 128]⟩
abbrev S1x4096x128 : Shape := ⟨3, ![1, 4096, 128]⟩
abbrev S32x128 : Shape := ⟨2, ![32, 128]⟩
abbrev S1x1 : Shape := ⟨2, ![1, 1]⟩

abbrev nBuf : Space → Nat
  | .hbm => 14
  | .vmem => 10
  | .smem => 0
  | _ => 0

abbrev bufTy : (tb : Table) → Fin (tcTables nBuf tb) → BufTy
  | .hbm, ⟨0, _⟩ => ⟨S64x4096, .i32⟩
  | .hbm, ⟨1, _⟩ => ⟨S5x128, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S8x128, .f32⟩
  | .hbm, ⟨6, _⟩ => ⟨S_, .i32⟩
  | .hbm, ⟨7, _⟩ => ⟨S1, .i32⟩
  | .hbm, ⟨8, _⟩ => ⟨S8x128, .f32⟩
  | .hbm, ⟨9, _⟩ => ⟨S1x128, .f32⟩
  | .hbm, ⟨10, _⟩ => ⟨S1x128, .f32⟩
  | .hbm, ⟨11, _⟩ => ⟨S8x128, .f32⟩
  | .hbm, ⟨12, _⟩ => ⟨S64x32x128, .i32⟩
  | .hbm, ⟨13, _⟩ => ⟨S64x4096x128, .f32⟩
  | .local _ .vmem, ⟨0, _⟩ => ⟨S64x4096, .i32⟩
  | .local _ .vmem, ⟨1, _⟩ => ⟨S8x128, .f32⟩
  | .local _ .vmem, ⟨2, _⟩ => ⟨S1x128, .f32⟩
  | .local _ .vmem, ⟨3, _⟩ => ⟨S1x128, .f32⟩
  | .local _ .vmem, ⟨4, _⟩ => ⟨S8x128, .f32⟩
  | .local _ .vmem, ⟨5, _⟩ => ⟨S1x32x128, .i32⟩
  | .local _ .vmem, ⟨6, _⟩ => ⟨S1x32x128, .i32⟩
  | .local _ .vmem, ⟨7, _⟩ => ⟨S8x128, .f32⟩
  | .local _ .vmem, ⟨8, _⟩ => ⟨S1x4096x128, .f32⟩
  | .local _ .vmem, ⟨9, _⟩ => ⟨S1x4096x128, .f32⟩
  | _, _ => ⟨S64x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := .none

abbrev stage0_0 : Fin 1 → Memref sig .tc .vmem S64x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x32x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S64x4096 : Shape := ⟨2, ![64, 4096]⟩
abbrev S5x128 : Shape := ⟨2, ![5, 128]⟩
abbrev S128 : Shape := ⟨1, ![128]⟩
abbrev S_ : Shape := ⟨0, ![]⟩
abbrev S64x4096x1 : Shape := ⟨3, ![64, 4096, 1]⟩
abbrev S1 : Shape := ⟨1, ![1]⟩
abbrev S1x1x1 : Shape := ⟨3, ![1, 1, 1]⟩
abbrev S64x4096x128 : Shape := ⟨3, ![64, 4096, 128]⟩
abbrev S64x128x4096 : Shape := ⟨3, ![64, 128, 4096]⟩
abbrev S1x128x1 : Shape := ⟨3, ![1, 128, 1]⟩

abbrev nBuf : Space → Nat
  | .hbm => 73
  | .vmem => 0
  | .smem => 0
  | _ => 0

abbrev bufTy : (tb : Table) → Fin (tcTables nBuf tb) → BufTy
  | .hbm, ⟨0, _⟩ => ⟨S64x4096, .i32⟩
  | .hbm, ⟨1, _⟩ => ⟨S5x128, .f32⟩
  | .hbm, ⟨2, _⟩ => ⟨S128, .f32⟩
  | .hbm, ⟨3, _⟩ => ⟨S128, .f32⟩
  | .hbm, ⟨4, _⟩ => ⟨S_, .i32⟩
  | .hbm, ⟨5, _⟩ => ⟨S64x4096, .i32⟩
  | .hbm, ⟨6, _⟩ => ⟨S64x4096, .i1⟩
  | .hbm, ⟨7, _⟩ => ⟨S_, .i32⟩
  | .hbm, ⟨8, _⟩ => ⟨S64x4096, .i32⟩
  | .hbm, ⟨9, _⟩ => ⟨S64x4096, .i32⟩
  | .hbm, ⟨10, _⟩ => ⟨S64x4096, .i32⟩
  | .hbm, ⟨11, _⟩ => ⟨S64x4096x1, .i32⟩
  | .hbm, ⟨12, _⟩ => ⟨S1, .i32⟩
  | .hbm, ⟨13, _⟩ => ⟨S_, .i32⟩
  | .hbm, ⟨14, _⟩ => ⟨S64x4096x1, .i32⟩
  | .hbm, ⟨15, _⟩ => ⟨S64x4096x1, .i1⟩
  | .hbm, ⟨16, _⟩ => ⟨S1x1x1, .i32⟩
  | .hbm, ⟨17, _⟩ => ⟨S64x4096x1, .i32⟩
  | .hbm, ⟨18, _⟩ => ⟨S64x4096x1, .i1⟩
  | .hbm, ⟨19, _⟩ => ⟨S64x4096x1, .i1⟩
  | .hbm, ⟨20, _⟩ => ⟨S_, .i1⟩
  | .hbm, ⟨21, _⟩ => ⟨S64x4096, .i1⟩
  | .hbm, ⟨22, _⟩ => ⟨S64x4096x128, .f32⟩
  | .hbm, ⟨23, _⟩ => ⟨S64x4096x128, .i1⟩
  | .hbm, ⟨24, _⟩ => ⟨S_, .f32⟩
  | .hbm, ⟨25, _⟩ => ⟨S64x4096x128, .f32⟩
  | .hbm, ⟨26, _⟩ => ⟨S64x4096x128, .f32⟩
  | .hbm, ⟨27, _⟩ => ⟨S64x128x4096, .f32⟩
  | .hbm, ⟨28, _⟩ => ⟨S_, .f32⟩
  | .hbm, ⟨29, _⟩ => ⟨S128, .f32⟩
  | .hbm, ⟨30, _⟩ => ⟨S1x128x1, .f32⟩
  | .hbm, ⟨31, _⟩ => ⟨S_, .f32⟩
  | .hbm, ⟨32, _⟩ => ⟨S1x128x1, .f32⟩
  | .hbm, ⟨33, _⟩ => ⟨S1x128x1, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128x1, .f32⟩
  | .hbm, ⟨38, _⟩ => ⟨S_, .f32⟩
  | .hbm, ⟨39, _⟩ => ⟨S1x128x1, .f32⟩
  | .hbm, ⟨40, _⟩ => ⟨S1x128x1, .f32⟩
  | .hbm, ⟨41, _⟩ => ⟨S64x128x4096, .f32⟩
  | .hbm, ⟨42, _⟩ => ⟨S64x128x4096, .f32⟩
  | .hbm, ⟨43, _⟩ => ⟨S64x128x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S128, .f32⟩
  | .hbm, ⟨49, _⟩ => ⟨S1x128x1, .f32⟩
  | .hbm, ⟨50, _⟩ => ⟨S1x128x1, .f32⟩
  | .hbm, ⟨51, _⟩ => ⟨S1x128x1, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S1x128x1, .f32⟩
  | .hbm, ⟨57, _⟩ => ⟨S1x128x1, .f32⟩
  | .hbm, ⟨58, _⟩ => ⟨S64x128x4096, .f32⟩
  | .hbm, ⟨59, _⟩ => ⟨S64x128x4096, .f32⟩
  | .hbm, ⟨60, _⟩ => ⟨S_, .f32⟩
  | .hbm, ⟨61, _⟩ => ⟨S1x128x1, .f32⟩
  | .hbm, ⟨62, _⟩ => ⟨S1x128x1, .f32⟩
  | .hbm, ⟨63, _⟩ => ⟨S1x128x1, .f32⟩
  | .hbm, ⟨64, _⟩ => ⟨S64x128x4096, .f32⟩
  | .hbm, ⟨65, _⟩ => ⟨S64x128x4096, .f32⟩
  | .hbm, ⟨66, _⟩ => ⟨S1x128x1, .f32⟩
  | .hbm, ⟨67, _⟩ => ⟨S64x128x4096, .f32⟩
  | .hbm, ⟨68, _⟩ => ⟨S64x128x4096, .f32⟩
  | .hbm, ⟨69, _⟩ => ⟨S1x128x1, .f32⟩
  | .hbm, ⟨70, _⟩ => ⟨S64x128x4096, .f32⟩
  | .hbm, ⟨71, _⟩ => ⟨S64x128x4096, .f32⟩
  | .hbm, ⟨72, _⟩ => ⟨S64x4096x128, .f32⟩
  | _, _ => ⟨S64x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩
abbrev main_c : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_cst_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_cst_1 : Ref sig .tc := ⟨.hbm, 45, rfl⟩
abbrev main_call1_v8 : Ref sig .tc := ⟨.hbm, 46, rfl⟩
abbrev main_call1_cst_2 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_cst_3 : Ref sig .tc := ⟨.hbm, 52, rfl⟩
abbrev main_call1_v13 : Ref sig .tc := ⟨.hbm, 53, rfl⟩
abbrev main_call1_cst_4 : Ref sig .tc := ⟨.hbm, 54, rfl⟩
abbrev main_call1_call0_v0 : Ref sig .tc := ⟨.hbm, 55, rfl⟩
abbrev main_call1_call0_v1 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_cst_1 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩

abbrev nD : Nat := 1
abbrev τ : Topo := Topo.v7x

variable {F : FTy → Type} [FloatOps F]
-- ==== Proof.Stats.lean ====
/- The first pallas_call of the idealized kernel: the table it writes, read at an entry. The body counts each token
   id, forms the mean and the mean square of every channel from the five counts, and stores the table's rows scaled and
   shifted by them. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Stats

open Idealize.ShloMosaic Idealize.ShloMosaic.Tactic Cert.KernelIdeal.Gen

/-- The weighted sum of five values, as the body adds it up. -/
def five (k e : Fin 5 → EReal) : EReal := k 0 * e 0 + k 1 * e 1 + k 2 * e 2 + k 3 * e 3 + k 4 * e 4

/-- Row `t` of the padded table, as a row of the eight. -/
abbrev row (t : Fin 5) : Fin 8 := ⟨t.val, by omega⟩

/-- The channel's mean, from the first term and the other four counts. -/
theorem mean_apply (x1 : FVec Ideal S8x128 .f32) (k : Fin 5 → EReal) (v45 : FVec Ideal S1x128 .f32)
    (c : Fin 128) (h : v45 (ix2 0 c) = k 0 * x1 (ix2 0 c)) :
    k0_pay9 (F := Ideal) x1 (k 1) (k 2) (k 3) (k 4) v45 (ix2 0 c)
      = Ideal.div (five k fun t => x1 (ix2 (row t) c)) (Ideal.ofBits .f32 0x48800000#32) := by
  pointwise [k0_pay9]
  rw [h]
  rfl

/-- The channel's variance plus the small constant, from the five counts. -/
theorem var_apply (x1 : FVec Ideal S8x128 .f32) (k : Fin 5 → EReal) (v45 : FVec Ideal S1x128 .f32)
    (c : Fin 128) (h : v45 (ix2 0 c) = k 0 * x1 (ix2 0 c)) :
    k0_pay11 (F := Ideal) x1 (k 0) (k 1) (k 2) (k 3) (k 4) v45 (ix2 0 c)
      = Ideal.div (five k fun t => x1 (ix2 (row t) c) * x1 (ix2 (row t) c)) (Ideal.ofBits .f32 0x48800000#32)
        - Ideal.div (five k fun t => x1 (ix2 (row t) c)) (Ideal.ofBits .f32 0x48800000#32)
          * Ideal.div (five k fun t => x1 (ix2 (row t) c)) (Ideal.ofBits .f32 0x48800000#32)
        + Ideal.ofBits .f32 0x3727C5AC#32 := by
  pointwise [k0_pay9, k0_pay11]
  rw [h]
  rfl

/-- The stored entry, from the mean, the scale's two factors and the shift. -/
theorem store_apply (x1 : FVec Ideal S8x128 .f32) (mean gam var bet : FVec Ideal S1x128 .f32) (t : Fin 8) (c : Fin 128) :
    k0_pay1 (F := Ideal) x1 mean gam var bet (ix2 t c)
      = x1 (ix2 t c) * (gam (ix2 0 c) * Ideal.rsqrt (var (ix2 0 c)))
        + (bet (ix2 0 c) - mean (ix2 0 c) * (gam (ix2 0 c) * Ideal.rsqrt (var (ix2 0 c)))) := by
  pointwise [k0_pay1]

/-- One where a word is the token id `t`, zero elsewhere. -/
def mask (t w : BitVec 32) : EReal := if w = t then 1 else 0

/-- The comparison's bit, widened and converted, is the mask. -/
theorem sitofp_cmpi (t w : BitVec 32) :
    FloatOps.sitofp (F := Ideal) .f32 (BitVec.setWidth 32 (IntOp.cmpi .eq w t)) = mask t w := by
  show (((BitVec.setWidth 32 (BitVec.ofBool (w == t))).toInt : ℝ) : EReal) = mask t w
  unfold mask
  by_cases h : w = t
  · subst h; simp
  · simp [h, beq_eq_false_iff_ne.mpr h]

/-- How often the token id `t` occurs. -/
def count (v : Vec Ideal S64x4096 .i32) (t : BitVec 32) : EReal := ∑ b : Fin 64, ∑ p : Fin 4096, mask t (v (ix2 b p))

/-- The body's count of the id zero. -/
theorem count0_eq (v : Vec Ideal S64x4096 .i32) : k0_pay3 (F := Ideal) v = count v 0#32 := by
  unfold k0_pay3
  pointwise
  simp only [sitofp_cmpi, count]

/-- The body's count of the id one. -/
theorem count1_eq (v : Vec Ideal S64x4096 .i32) : k0_pay4 (F := Ideal) v = count v 1#32 := by
  unfold k0_pay4
  pointwise
  simp only [sitofp_cmpi, count]

/-- The body's count of the id two. -/
theorem count2_eq (v : Vec Ideal S64x4096 .i32) : k0_pay5 (F := Ideal) v = count v 2#32 := by
  unfold k0_pay5
  pointwise
  simp only [sitofp_cmpi, count]

/-- The body's count of the id three. -/
theorem count3_eq (v : Vec Ideal S64x4096 .i32) : k0_pay6 (F := Ideal) v = count v 3#32 := by
  unfold k0_pay6
  pointwise
  simp only [sitofp_cmpi, count]

/-- The body's count of the id four. -/
theorem count4_eq (v : Vec Ideal S64x4096 .i32) : k0_pay7 (F := Ideal) v = count v 4#32 := by
  unfold k0_pay7
  pointwise
  simp only [sitofp_cmpi, count]

/-- The first term of a channel's mean: the count of the id zero times the table's first row. -/
theorem first_apply (v : Vec Ideal S64x4096 .i32) (x1 : Vec Ideal S8x128 .f32) (c : Fin 128) :
    k0_pay8 (F := Ideal) v x1 (ix2 0 c) = count v 0#32 * x1 (ix2 0 c) := by
  unfold k0_pay8
  rw [count0_eq]
  generalize count v 0#32 = k
  pointwise [k0_pay2]

/-- The five counts, by token id. -/
def counts (v : Vec Ideal S64x4096 .i32) (t : Fin 5) : EReal := count v (BitVec.ofNat 32 t.val)

/-- The channel's mean, as the kernel takes it. -/
def mean (v : Vec Ideal S64x4096 .i32) (e : Fin 5 → EReal) : EReal :=
  Ideal.div (five (counts v) e) (Ideal.ofBits .f32 0x48800000#32)

/-- The factor the kernel scales a channel by. -/
def scale (v : Vec Ideal S64x4096 .i32) (e : Fin 5 → EReal) (g : EReal) : EReal :=
  g * Ideal.rsqrt (Ideal.div (five (counts v) fun t => e t * e t) (Ideal.ofBits .f32 0x48800000#32) - mean v e * mean v e
    + Ideal.ofBits .f32 0x3727C5AC#32)

/-- An entry of the table the first pallas_call writes. -/
theorem table_apply (x0 : Vec Ideal S64x4096 .i32) (x1 : Vec Ideal S8x128 .f32) (x2 x3 : Vec Ideal S1x128 .f32) (t : Fin 8)
    (c : Fin 128) :
    out0_4 x0 x1 x2 x3 (ix2 t c)
      = x1 (ix2 t c) * scale x0 (fun s => x1 (ix2 (row s) c)) (x2 (ix2 0 c))
        + (x3 (ix2 0 c) - mean x0 (fun s => x1 (ix2 (row s) c)) * scale x0 (fun s => x1 (ix2 (row s) c)) (x2 (ix2 0 c))) := by
  have hz : (![0, 0] : Fin 2 → ℕ) = fun _ => 0 := by funext a; fin_cases a <;> rfl
  have h0 : View.ld x0 r0_0 = x0 := View.ld_unit_zero hz _ _
  have h1 : View.ld x1 r0_1 = x1 := View.ld_unit_zero hz _ _
  have h2 : View.ld x2 r0_2 = x2 := View.ld_unit_zero hz _ _
  have h3 : View.ld x3 r0_2 = x3 := View.ld_unit_zero hz _ _
  have hs : ∀ x : Vec Ideal S8x128 .f32, k0_pay2 x = x := by intro x; funext j; idx_vars j; pointwise [k0_pay2]
  have hg : ∀ x : Vec Ideal S1x128 .f32, k0_pay10 x = x := by intro x; funext j; idx_vars j; pointwise [k0_pay10]
  unfold out0_4 k0_pay12 k0_pay13
  rw [View.canon_unit_zero hz, h0, h1, h2, h3, hs, hg, count0_eq, count1_eq, count2_eq, count3_eq, count4_eq, store_apply]
  have hf := first_apply x0 x1 c
  generalize k0_pay8 x0 x1 = f at hf ⊢
  have hm := mean_apply x1 (counts x0) f c hf
  have hv := var_apply x1 (counts x0) f c hf
  simp only [counts, Fin.isValue, Fin.val_zero, Fin.val_one] at hm hv
  unfold scale mean
  exact congrArg₂ _ (congrArg₂ _ rfl (congrArg₂ _ rfl (congrArg _ hv))) (congrArg₂ _ rfl (congrArg₂ _ hm (congrArg₂ _ rfl (congrArg _ hv))))

end Cert.KernelIdeal.Stats

end
-- ==== Proof.Columns.lean ====
/- The second pallas_call of the idealized kernel, one batch row of it: the block written at a grid point, read at an
   index. The body writes 128 column tiles; tile `c` holds, for each token id `t`, the mask of the row's tokens equal to
   `t` times entry `(t, c)` of the table, summed over the five ids. -/
module

public import proofs.«01_k».proof.Proof.Gen.KernelIdeal.Frame
public import proofs.«01_k».proof.Proof.Stats

@[expose] public section

set_option maxRecDepth 16384

noncomputable section

namespace Cert.KernelIdeal.Columns

open Idealize.ShloMosaic Idealize.ShloMosaic.Tactic Cert.KernelIdeal.Gen

variable {F : FTy → Type} [FloatOps F]

/-- One entry of the table lies inside the table. -/
theorem entry_inb (t : Fin 8) (c : Fin 128) :
    ∀ a : Fin S8x128.rank, (![t.val, c.val] : Fin 2 → ℕ) a + S1x1.size a ≤ S8x128.size a := by
  intro a
  fin_cases a
  · show t.val + 1 ≤ 8; omega
  · show c.val + 1 ≤ 128; omega

/-- A tile of 32 rows, the `c`-th of the block, lies inside the block. -/
theorem tile_inb (c : Fin 128) :
    ∀ a : Fin S1x4096x128.rank, (![0, 32 * c.val, 0] : Fin 3 → ℕ) a + S1x32x128.size a ≤ S1x4096x128.size a := by
  intro a
  fin_cases a
  · show 0 + 1 ≤ 1; omega
  · show 32 * c.val + 32 ≤ 4096; omega
  · show 0 + 128 ≤ 128; omega

/-- Entry `(t, c)` of the table, as the body loads and extracts it, spread over a tile. -/
def spread (x1 : Vec F S8x128 .f32) (t : Fin 8) (c : Fin 128) : FVec F S32x128 .f32 :=
  broadcast S32x128 (extractAt ![0, 0]
    (View.ld x1 (Rect.unit (s := S8x128) ![t.val, c.val] S1x1.size (entry_inb t c)) : Vec F S1x1 .f32) inpos_S1x1_p0_0)

/-- What the body stores in tile `c`. -/
def tile (x0 : Vec F S1x32x128 .i32) (x1 : Vec F S8x128 .f32) (c : Fin 128) : Vec F S1x32x128 .f32 :=
  shapeCast S1x32x128
    (addf (addf (addf (addf (mulf (k1_pay238 x0 x1) (spread x1 0 c)) (mulf (k1_pay239 x0 x1) (spread x1 1 c)))
      (mulf (k1_pay240 x0 x1) (spread x1 2 c))) (mulf (k1_pay241 x0 x1) (spread x1 3 c)))
      (mulf (k1_pay242 x0 x1) (spread x1 4 c)))
    shapeCasts_S32x128_S1x32x128

/-- The block is the 128 tiles, the last column's store first. -/
theorem out_eq_tiles (x0 : Vec F S1x32x128 .i32) (x1 : Vec F S8x128 .f32) :
    out1_2 x0 x1 = View.canon (List.ofFn fun k : Fin 128 =>
      (⟨Rect.unit (s := S1x4096x128) ![0, 32 * (Fin.rev k).val, 0] S1x32x128.size (tile_inb (Fin.rev k)), tile x0 x1 (Fin.rev k)⟩ :
        View.Piece (Elt F) S1x4096x128 .f32)) := by
  chain_rfl

open Cert.KernelIdeal.Stats in
/-- A tile read at an index: the five masks of the token there, weighted by the table's column. -/
theorem tile_apply (x0 : Vec Ideal S1x32x128 .i32) (x1 : Vec Ideal S8x128 .f32) (c : Fin 128) (r : Fin 32) (l : Fin 128) :
    tile x0 x1 c (ix3 0 r l)
      = five (fun t => mask (BitVec.ofNat 32 t.val) (x0 (ix3 0 r l))) fun t => x1 (ix2 (row t) c) := by
  have hz : (![0, 0, 0] : Fin 3 → ℕ) = fun _ => 0 := by funext a; fin_cases a <;> rfl
  have h0 : View.ld x0 r1_0 = x0 := View.ld_unit_zero hz _ _
  have hs : ∀ t : Fin 8, spread x1 t c (ix2 r l) = x1 (ix2 t c) := by intro t; pointwise [spread]
  have m0 : k1_pay238 x0 x1 (ix2 r l) = mask 0#32 (x0 (ix3 0 r l)) := by
    unfold k1_pay238; rw [h0]; pointwise [k1_pay3, k1_pay2]; exact sitofp_cmpi _ _
  have m1 : k1_pay239 x0 x1 (ix2 r l) = mask 1#32 (x0 (ix3 0 r l)) := by
    unfold k1_pay239; rw [h0]; pointwise [k1_pay4, k1_pay2]; exact sitofp_cmpi _ _
  have m2 : k1_pay240 x0 x1 (ix2 r l) = mask 2#32 (x0 (ix3 0 r l)) := by
    unfold k1_pay240; rw [h0]; pointwise [k1_pay5, k1_pay2]; exact sitofp_cmpi _ _
  have m3 : k1_pay241 x0 x1 (ix2 r l) = mask 3#32 (x0 (ix3 0 r l)) := by
    unfold k1_pay241; rw [h0]; pointwise [k1_pay6, k1_pay2]; exact sitofp_cmpi _ _
  have m4 : k1_pay242 x0 x1 (ix2 r l) = mask 4#32 (x0 (ix3 0 r l)) := by
    unfold k1_pay242; rw [h0]; pointwise [k1_pay7, k1_pay2]; exact sitofp_cmpi _ _
  pointwise [tile]
  rw [hs, hs, hs, hs, hs, m0, m1, m2, m3, m4]
  rfl

open Cert.KernelIdeal.Stats in
/-- The block of one batch row, read at row `32 c + r` and lane `l`. -/
theorem block_apply (x0 : Vec Ideal S1x32x128 .i32) (x1 : Vec Ideal S8x128 .f32) (c : Fin 128) (r : Fin 32) (l : Fin 128) :
    out1_2 x0 x1 (ix3 0 ⟨32 * c.val + r.val, by omega⟩ l)
      = five (fun t => mask (BitVec.ofNat 32 t.val) (x0 (ix3 0 r l))) fun t => x1 (ix2 (row t) c) := by
  rw [out_eq_tiles]
  refine View.canon_ofFn_unit_eq_of_forall (S := S1x4096x128) (fun k : Fin 128 => ![0, 32 * (Fin.rev k).val, 0]) S1x32x128.size
    (fun k => tile_inb (Fin.rev k)) (fun k => tile x0 x1 (Fin.rev k)) _ _ ⟨Fin.rev c, fun a => ?_⟩ fun k x hx => ?_
  · rw [Fin.rev_rev]
    fin_cases a
    · exact ⟨Nat.zero_le _, Nat.zero_lt_one⟩
    · show 32 * c.val ≤ 32 * c.val + r.val ∧ 32 * c.val + r.val < 32 * c.val + 32
      omega
    · show 0 ≤ l.val ∧ l.val < 0 + 128
      omega
  · have hx1 : 32 * c.val + r.val = 32 * (Fin.rev k).val + (x 1).val := hx 1
    have hx2 : l.val = 0 + (x 2).val := hx 2
    have b1 : (x 1).val < 32 := (x 1).isLt
    have b0 : (x 0).val < 1 := (x 0).isLt
    have hk : Fin.rev k = c := Fin.ext (by omega)
    have hxe : x = ix3 0 r l := by
      funext a
      fin_cases a
      · exact Fin.ext (show (x 0).val = 0 by omega)
      · exact Fin.ext (show (x 1).val = r.val by omega)
      · exact Fin.ext (show (x 2).val = l.val by omega)
    rw [hk, hxe]
    exact tile_apply x0 x1 c r l

end Cert.KernelIdeal.Columns

end
-- ==== Proof.Arrays.lean ====
/- The arrays the two pallas_calls of the idealized kernel leave, element by element, from the contents the calls find. -/
module

public import proofs.«01_k».proof.Proof.Columns

@[expose] public section

set_option maxRecDepth 16384

noncomputable section

namespace Cert.KernelIdeal.Arrays

open Idealize.ShloMosaic Idealize.ShloMosaic.TcCoe Idealize.ShloMosaic.Tactic Cert.KernelIdeal.Gen Cert.KernelIdeal.Stats

/-- The scaled and shifted table, from the tokens, the padded table and the two parameter rows. -/
def tableOf (v : Vec Ideal S64x4096 .i32) (e : Vec Ideal S8x128 .f32) (g b : Vec Ideal S1x128 .f32) : Vec Ideal S8x128 .f32 := fun i =>
  e (ix2 (i 0) (i 1)) * scale v (fun s => e (ix2 (row s) (i 1))) (g (ix2 0 (i 1)))
    + (b (ix2 0 (i 1)) - mean v (fun s => e (ix2 (row s) (i 1))) * scale v (fun s => e (ix2 (row s) (i 1))) (g (ix2 0 (i 1))))

/-- The output, from the tokens in the kernel's layout and the table: at batch row `b`, row `32 k + r` and lane `l`,
    channel `k` of the token at place `(r, l)` of the batch row. -/
def denseOf (v : Vec Ideal S64x32x128 .i32) (tn : Vec Ideal S8x128 .f32) : Vec Ideal S64x4096x128 .f32 := fun i =>
  five (fun t => mask (BitVec.ofNat 32 t.val) (v (ix3 (i 0) ⟨(i 1).val % 32, Nat.mod_lt _ (by decide)⟩ (i 2))))
    fun t => tn (ix2 (row t) ⟨(i 1).val / 32, by have : (i 1).val < 4096 := (i 1).isLt; omega⟩)

/-- What the first call's body stores is that table. -/
theorem out_eq_tableOf (v : Vec Ideal S64x4096 .i32) (e : Vec Ideal S8x128 .f32) (g b : Vec Ideal S1x128 .f32) :
    out0_4 v e g b = tableOf v e g b := by
  funext i
  idx_vars i
  exact table_apply v e g b _ _

/-- The block of one batch row, read at any of its rows. -/
theorem block_at (x0 : Vec Ideal S1x32x128 .i32) (x1 : Vec Ideal S8x128 .f32) (j : Fin 4096) (l : Fin 128) :
    out1_2 x0 x1 (ix3 0 j l)
      = five (fun t => mask (BitVec.ofNat 32 t.val) (x0 (ix3 0 ⟨j.val % 32, Nat.mod_lt _ (by decide)⟩ l)))
          fun t => x1 (ix2 (row t) ⟨j.val / 32, by omega⟩) := by
  have h := Columns.block_apply x0 x1 ⟨j.val / 32, by omega⟩ ⟨j.val % 32, Nat.mod_lt _ (by decide)⟩ l
  have hj : (⟨32 * (j.val / 32) + j.val % 32, by omega⟩ : Fin 4096) = j := Fin.ext (Nat.div_add_mod _ _)
  rw [← h]
  exact congrArg (fun q => out1_2 x0 x1 (ix3 0 q l)) hj.symm

variable (V : (c : Dev nD) → (b : Ref sig .tc) → Buf (Elt Ideal) ((c : Thread nD τ).loc b))

/-- At every point the second call's windows stand at the point's batch row. -/
theorem idx1 : ∀ t : Fin cfg1.N, win1_0.index t = ![t.val, 0, 0] ∧ win1_1.index t = ![0, 0] ∧ win1_2.index t = ![t.val, 0, 0] := by
  decide +kernel

/-- The first call's windows stand at the start of their arrays. -/
theorem idx0 : ∀ t : Fin cfg0.N, win0_0.index t = ![0, 0] ∧ win0_1.index t = ![0, 0] ∧ win0_2.index t = ![0, 0]
    ∧ win0_3.index t = ![0, 0] ∧ win0_4.index t = ![0, 0] := by
  decide +kernel

/-- The first call's array: the scaled and shifted table. -/
theorem table_array (c : Dev nD) :
    (dat0 V c).arrAt 4 cfg0.N = tableOf (V c main_arg0) (V c main_v2) (V c main_v3) (V c main_v4) := by
  have e0 : ∀ t, iblk0 V c 0 t = V c main_arg0 := by
    intro t; funext y; blk_ext [iblk0, (idx0 t).1]
  have e1 : ∀ t, iblk0 V c 1 t = V c main_v2 := by
    intro t; funext y; blk_ext [iblk0, (idx0 t).2.1]
  have e2 : ∀ t, iblk0 V c 2 t = V c main_v3 := by
    intro t; funext y; blk_ext [iblk0, (idx0 t).2.2.1]
  have e3 : ∀ t, iblk0 V c 3 t = V c main_v4 := by
    intro t; funext y; blk_ext [iblk0, (idx0 t).2.2.2.1]
  refine (dat0 V c).arrAt_eq_of_covers 4 _ (by decide +kernel) fun t hf y => ?_
  blk_simp
  rw [after0_4, e0, e1, e2, e3, out_eq_tableOf]
  have hy : (win0_4.blk t).view.emb y = y := by blk_ext [(idx0 t).2.2.2.2]
  rw [hy]

/-- The second call's array. -/
theorem dense_array (c : Dev nD) :
    (dat1 V c).arrAt 2 cfg1.N = denseOf (V c main_v6) (V c main_v5) := by
  have e1 : ∀ t, iblk1 V c 1 t = V c main_v5 := by
    intro t; funext y; blk_ext [iblk1, (idx1 t).2.1]
  refine (dat1 V c).arrAt_eq_of_covers 2 _ (by decide +kernel) fun t hf y => ?_
  blk_simp
  rw [after1_2, e1]
  have b0 : (y 0).val < 1 := (y 0).isLt
  have b1 : (y 1).val < 4096 := (y 1).isLt
  have b2 : (y 2).val < 128 := (y 2).isLt
  have ht : t.val < 64 := t.isLt
  have hy : y = ix3 (0 : Fin 1) (⟨(y 1).val, b1⟩ : Fin 4096) (⟨(y 2).val, b2⟩ : Fin 128) := by blk_ext
  have hi : (win1_2.blk t).view.emb y = ix3 (⟨t.val, ht⟩ : Fin 64) (⟨(y 1).val, b1⟩ : Fin 4096) (⟨(y 2).val, b2⟩ : Fin 128) := by
    blk_ext [(idx1 t).2.2]
  rw [hi]
  refine (congrArg (out1_2 (iblk1 V c 0 t) (V c main_v5)) hy).trans ?_
  refine (block_at (iblk1 V c 0 t) (V c main_v5) _ _).trans ?_
  unfold denseOf
  refine congrArg₂ five (funext fun s => congrArg (mask _) ?_) rfl
  blk_ext [iblk1, (idx1 t).1]

end Cert.KernelIdeal.Arrays

end
-- ==== Proof.HostRows.lean ====
/- The host operations of the idealized kernel around its two calls, read at an index: the table of five rows padded to
   eight, the parameter rows, and the tokens regrouped 32 rows of 128 to a batch row. -/
module

public import proofs.«01_k».proof.Proof.Arrays
public import Idealize.ShloMosaic.Lib.StableHlo.ReadAt
public import Idealize.ShloMosaic.Lib.Routing.OpsSet
public import Idealize.ShloMosaic.Lib.Routing.OpsPair

@[expose] public section

set_option maxRecDepth 16384

noncomputable section

namespace Cert.KernelIdeal.HostRows

open Idealize.ShloMosaic Idealize.ShloMosaic.TcCoe Idealize.ShloMosaic.Tactic Cert.KernelIdeal.Gen Cert.KernelIdeal.Stats

/-- Where an update lands when its one index word is zero: at its own coordinates. -/
theorem lands (idx : IVec S1 32) (h : ∀ i, idx i = 0#32) (k : S5x128.Idx) (i : S8x128.Idx) :
    (scatter_S8x128_S1_S5x128_01_n_0_0).resultIdx? k idx = some i ↔ (k 0).val = (i 0).val ∧ (k 1).val = (i 1).val := by
  have w0 : (scatter_S8x128_S1_S5x128_01_n_0_0).window k 0 = (k 0).val := rfl
  have w1 : (scatter_S8x128_S1_S5x128_01_n_0_0).window k 1 = (k 1).val := rfl
  have s : ∀ a, (scatter_S8x128_S1_S5x128_01_n_0_0).start k idx a = 0 := by
    intro a
    unfold ScatterDims.start
    split
    · rw [h]; rfl
    · rfl
  rw [Routing.resultIdx?_eq_some]
  constructor
  · intro q
    have q0 := q 0
    have q1 := q 1
    rw [s, w0] at q0
    rw [s, w1] at q1
    omega
  · rintro ⟨e0, e1⟩ a
    rw [s]
    match a with
    | ⟨0, _⟩ => rw [show (scatter_S8x128_S1_S5x128_01_n_0_0).window k ⟨0, by decide⟩ = (k 0).val from rfl, e0]; exact Int.zero_add _
    | ⟨1, _⟩ => rw [show (scatter_S8x128_S1_S5x128_01_n_0_0).window k ⟨1, by decide⟩ = (k 1).val from rfl, e1]; exact Int.zero_add _

/-- The first five rows of the padded table are the table's. -/
theorem padded_apply (x : Vec Ideal S8x128 .f32) (idx : IVec S1 32) (h : ∀ i, idx i = 0#32) (u : Vec Ideal S5x128 .f32)
    (t : Fin 5) (c : Fin 128) :
    Host.scatter scatter_S8x128_S1_S5x128_01_n_0_0 (fun _ b => b) x idx u (ix2 (row t) c) = u (ix2 t c) := by
  refine Routing.scatter_set_hit _ x idx u _ _ (fun k hk => ?_) (ix2 t c) ((lands idx h _ _).2 ⟨rfl, rfl⟩)
  obtain ⟨e0, e1⟩ := (lands idx h _ _).1 hk
  have hk' : k = ix2 t c := by
    funext a
    match a with
    | ⟨0, _⟩ => exact Fin.ext e0
    | ⟨1, _⟩ => exact Fin.ext e1
  rw [hk']

variable (m : (ℓ : Loc nD τ sig) → Buf (Elt Ideal) ℓ) (ρ : Dev nD → PrngReg)

/-- The padded table as the first call finds it, at one of the first five rows. -/
theorem entry_table (d : Dev nD) (t : Fin 5) (c : Fin 128) :
    V1 m ρ d main_v2 (ix2 (row t) c) = m ((d : Thread nD τ).loc main_arg1) (ix2 t c) := by
  have e : V1 m ρ d main_v2 = Host.scatter scatter_S8x128_S1_S5x128_01_n_0_0 (fun _ b => b)
      (broadcastInDim S8x128 ![] bcast_S_S8x128 (constant S_ .f32 0x00000000#32 : FVec Ideal S_ .f32))
      (broadcastInDim S1 ![] bcast_S_S1 (constantI S_ 32 0#32)) (m ((d : Thread nD τ).loc main_arg1)) := by
    show StableHlo.after hostOps0 (W0 m ρ d) (Proc.devRef .tc main_v2) = _
    after_reads_simp
  rw [e]
  exact padded_apply _ _ (fun _ => rfl) _ t c

/-- The scale row as the first call finds it. -/
theorem entry_gamma (d : Dev nD) (c : Fin 128) :
    V1 m ρ d main_v3 (ix2 0 c) = m ((d : Thread nD τ).loc main_arg2) (ix1 c) := by
  show StableHlo.after hostOps0 (W0 m ρ d) (Proc.devRef .tc main_v3) (ix2 0 c) = _
  after_reads_at

/-- The shift row as the first call finds it. -/
theorem entry_beta (d : Dev nD) (c : Fin 128) :
    V1 m ρ d main_v4 (ix2 0 c) = m ((d : Thread nD τ).loc main_arg3) (ix1 c) := by
  show StableHlo.after hostOps0 (W0 m ρ d) (Proc.devRef .tc main_v4) (ix2 0 c) = _
  after_reads_at

/-- The tokens as the first call finds them. -/
theorem entry_tokens (d : Dev nD) : V1 m ρ d main_arg0 = m ((d : Thread nD τ).loc main_arg0) :=
  W1_of m ρ d main_arg0 (by decide)

/-- The tokens as the second call finds them: place `(r, l)` of batch row `b` is position `128 r + l`. -/
theorem entry_grouped (d : Dev nD) (b : Fin 64) (r : Fin 32) (l : Fin 128) :
    V3 m ρ d main_v6 (ix3 b r l) = m ((d : Thread nD τ).loc main_arg0) (ix2 b ⟨r.val * 128 + l.val, by omega⟩) := by
  have e : V2 m ρ d main_arg0 = m ((d : Thread nD τ).loc main_arg0) := W2_args m ρ d main_arg0 (by decide)
  show StableHlo.after hostOps1 (W2 m ρ d) (Proc.devRef .tc main_v6) (ix3 b r l) = _
  after_reads_at
  exact congrFun e _

/-- The second call's table is what the first call left. -/
theorem entry_scaled (d : Dev nD) :
    V3 m ρ d main_v5 = Arrays.tableOf (V1 m ρ d main_arg0) (V1 m ρ d main_v2) (V1 m ρ d main_v3) (V1 m ρ d main_v4) := by
  refine (W3_of m ρ d main_v5 (by decide)).trans ?_
  exact (W2_arr m ρ d 4).trans (Arrays.table_array (V1 m ρ) d)

end Cert.KernelIdeal.HostRows

end
-- ==== Proof.KernelRun.lean ====
/- The idealized kernel's run with its result: what the launch of both calls leaves in the output array. -/
module

public import proofs.«01_k».proof.Proof.HostRows

@[expose] public section

set_option maxRecDepth 16384

noncomputable section

namespace Cert.KernelIdeal.KernelRun

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- The output array as a function of the arrays the two calls find. -/
def result (d : Dev nD) : Vec Ideal S64x4096x128 .f32 :=
  Arrays.denseOf (V3 m ρ d main_v6) (Arrays.tableOf (V1 m ρ d main_arg0) (V1 m ρ d main_v2) (V1 m ρ d main_v3) (V1 m ρ d main_v4))

/-- At the last boundary the output array holds `result`. -/
theorem last_output (d : Dev nD) : W4 m ρ d (Proc.devRef .tc main_v7) = result m ρ d := by
  refine (W4_arr m ρ d 2).trans ((Arrays.dense_array (V3 m ρ) d).trans ?_)
  rw [HostRows.entry_scaled]
  rfl

set_option backward.isDefEq.respectTransparency.types false in
/-- Every run of the idealized kernel ends with the output array at `result` and the arguments as launched. -/
theorem run : θ_run defs (onTc (τ := τ) (main (F := Ideal))) ⟨m, fun _ => 0, ρ⟩ (fun r => ∀ c : Dev nD,
      r.2.mem ((c.tc : Thread nD τ).loc main_v7) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v7 (by decide))).trans (last_output m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.KernelRun

end
-- ==== Proof.RefRows.lean ====
/- The reference, read at an index: the row its table look-up takes, the sums over batch and position, and the
   normalization. -/
module

public import proofs.«01_k».proof.Proof.Gen.ReferenceIdeal.Run
public import Idealize.ShloMosaic.Lib.Pointwise
public import Idealize.ShloMosaic.Lib.ReduceAll

@[expose] public section

set_option maxRecDepth 16384

noncomputable section

namespace Cert.ReferenceIdeal.Rows

open Idealize.ShloMosaic Idealize.ShloMosaic.TcCoe Idealize.ShloMosaic.Tactic Cert.ReferenceIdeal Cert.ReferenceIdeal.Gen

/-- The look-up's index words: a negative token counts from the table's end. -/
def wrapped (v : IVec S64x4096 32) : IVec S64x4096x1 32 :=
  broadcastInDim S64x4096x1 ![0, 1] bcast_S64x4096_S64x4096x1_0_1
    (select (cmpi .slt v (broadcastInDim S64x4096 ![] bcast_S_S64x4096 (constantI S_ 32 0#32)))
      (addi v (broadcastInDim S64x4096 ![] bcast_S_S64x4096 (constantI S_ 32 5#32))) v)

/-- One where the index word is a row of the table. -/
def inside (i : IVec S64x4096x1 32) : IVec S64x4096 1 :=
  Host.reduce IntOp.andi
    (andi (cmpi .sge i (broadcastInDim S64x4096x1 ![] bcast_S_S64x4096x1 (constantI S_ 32 0#32)))
      (cmpi .sle i (broadcastInDim S64x4096x1 ![0, 1, 2] bcast_S1x1x1_S64x4096x1_0_1_2
        (broadcastInDim S1x1x1 ![2] bcast_S1_S1x1x1_2 (constantI S1 32 4#32)))))
    (constantI S_ 1 1#1) reducesTo_S64x4096x1_S64x4096_d2 h_S_

/-- The table's rows at the tokens, channels before positions. -/
def picked (v : IVec S64x4096 32) (e : FVec Ideal S5x128 .f32) : FVec Ideal S64x128x4096 .f32 :=
  transpose S64x128x4096 [0, 2, 1]
    (select (broadcastInDim S64x4096x128 ![0, 1] bcast_S64x4096_S64x4096x128_0_1 (inside (wrapped v)))
      (Host.gather gather_S5x128_S64x4096x1_S64x4096x128_2_0_n_n_0_2_1128 e (wrapped v))
      (broadcastInDim S64x4096x128 ![] bcast_S_S64x4096x128 (constant S_ .f32 0x7FC00000#32)))
    transposes_S64x4096x128_S64x128x4096_0_2_1

/-- Every channel's sum over batch and position. -/
def sums (x : FVec Ideal S64x128x4096 .f32) : FVec Ideal S1x128x1 .f32 :=
  broadcastInDim S1x128x1 ![1] bcast_S128_S1x128x1_1
    (Host.reduceAdd x (constant S_ .f32 0x00000000#32) reducesTo_S64x128x4096_S128_d0_2 h_S_)

/-- Every channel's mean. -/
def means (x : FVec Ideal S64x128x4096 .f32) : FVec Ideal S1x128x1 .f32 :=
  Host.divf (sums x) (broadcastInDim S1x128x1 ![] bcast_S_S1x128x1 (constant S_ .f32 0x48800000#32))

/-- The entries less their channel's mean. -/
def centred (x : FVec Ideal S64x128x4096 .f32) : FVec Ideal S64x128x4096 .f32 :=
  subf x (broadcastInDim S64x128x4096 ![0, 1, 2] bcast_S1x128x1_S64x128x4096_0_1_2 (means x))

/-- The number of entries of a channel, as the variance divides by it. -/
def entries : FVec Ideal S_ .f32 := subf (constant S_ .f32 0x48800000#32) (sitofp .f32 (constantI S_ 32 0#32))

/-- Every channel's variance. -/
def variances (x : FVec Ideal S64x128x4096 .f32) : FVec Ideal S1x128x1 .f32 :=
  select (broadcastInDim S1x128x1 ![] bcast_S_S1x128x1 (cmpf .ogt entries (constant S_ .f32 0x00000000#32)))
    (Host.divf (sums (mulf (centred x) (centred x))) (broadcastInDim S1x128x1 ![] bcast_S_S1x128x1 entries))
    (broadcastInDim S1x128x1 ![] bcast_S_S1x128x1 (id (constant S_ .f32 0x7FC00000#32)))

/-- A channel's parameter at every entry of the channel. -/
def along (g : FVec Ideal S128 .f32) : FVec Ideal S64x128x4096 .f32 :=
  broadcastInDim S64x128x4096 ![0, 1, 2] bcast_S1x128x1_S64x128x4096_0_1_2 (broadcastInDim S1x128x1 ![1] bcast_S128_S1x128x1_1 g)

/-- The normalized entries, scaled and shifted, channels before positions. -/
def normed (x : FVec Ideal S64x128x4096 .f32) (g b : FVec Ideal S128 .f32) : FVec Ideal S64x128x4096 .f32 :=
  addf (mulf (Host.divf (centred x)
      (broadcastInDim S64x128x4096 ![0, 1, 2] bcast_S1x128x1_S64x128x4096_0_1_2
        (Host.sqrt (addf (variances x) (broadcastInDim S1x128x1 ![] bcast_S_S1x128x1 (constant S_ .f32 0x3727C5AC#32))))))
    (along g)) (along b)

/-- The reference's result is the normalized rows, regrouped. -/
theorem result_eq (m : (ℓ : Loc nD τ sig) → Buf (Elt Ideal) ℓ) (d : Dev nD) :
    Value.res_out0 m d = shapeCast _ (normed (picked (m ((d : Thread nD τ).loc main_arg0)) (m ((d : Thread nD τ).loc main_arg1)))
      (m ((d : Thread nD τ).loc main_arg2)) (m ((d : Thread nD τ).loc main_arg3))) shapeCasts_S64x128x4096_S64x4096x128 := by
  unfold Value.res_out0 Value.res_main_v20
  rfl

/-- The look-up at one entry: the row that the index word names, when that is a row of the table. -/
theorem gather_row (e : FVec Ideal S5x128 .f32) (i : IVec S64x4096x1 32) (b : Fin 64) (p : Fin 4096) (c : Fin 128) (t : Fin 5)
    (h : i (ix3 b p 0) = BitVec.ofNat 32 t.val) :
    Host.gather gather_S5x128_S64x4096x1_S64x4096x128_2_0_n_n_0_2_1128 e i (ix3 b p c) = e (ix2 t c) := by
  unfold Host.gather
  congr 1
  funext a
  refine Fin.ext ?_
  match a with
  | ⟨0, _⟩ =>
    show GatherDims.start _ (ix3 b p c) i 0 + GatherDims.batchCoord _ (ix3 b p c) 0 + GatherDims.offCoord _ (ix3 b p c) 0 = t.val
    have hs : GatherDims.start gather_S5x128_S64x4096x1_S64x4096x128_2_0_n_n_0_2_1128 (ix3 b p c) i 0 = min (i (ix3 b p 0)).toInt.toNat 4 := by
      unfold GatherDims.start
      split
      · rename_i q
        have hi : GatherDims.siIdx gather_S5x128_S64x4096x1_S64x4096x128_2_0_n_n_0_2_1128 (ix3 b p c)
            ⟨_, List.idxOf_lt_length_iff.2 q⟩ = ix3 b p 0 := by
          funext k
          refine Fin.ext ?_
          match k with
          | ⟨0, _⟩ => rfl
          | ⟨1, _⟩ => rfl
          | ⟨2, _⟩ => rfl
        rw [hi]
        rfl
      · rename_i q
        exact absurd (by decide) q
    rw [hs, h]
    show min (BitVec.ofNat 32 t.val).toInt.toNat 4 + 0 + 0 = t.val
    clear hs h
    revert t
    decide
  | ⟨1, _⟩ =>
    show GatherDims.start _ (ix3 b p c) i 1 + GatherDims.batchCoord _ (ix3 b p c) 1 + GatherDims.offCoord _ (ix3 b p c) 1 = c.val
    have hs : GatherDims.start gather_S5x128_S64x4096x1_S64x4096x128_2_0_n_n_0_2_1128 (ix3 b p c) i 1 = 0 := by
      unfold GatherDims.start
      rw [dif_neg (by decide)]
    rw [hs]
    show 0 + 0 + c.val = c.val
    omega

/-- An index whose kept coordinate is `c` is channel `c`'s entry at its other two coordinates. -/
theorem entry_of_drop (i : S64x128x4096.Idx) (c : Fin 128) (h : reducesTo_S64x128x4096_S128_d0_2.drop i = ix1 c) :
    ix3 (i 0) c (i 2) = i := by
  funext a
  refine Fin.ext ?_
  match a with
  | ⟨0, _⟩ => rfl
  | ⟨1, _⟩ => exact (congrArg Fin.val (congrFun h 0)).symm
  | ⟨2, _⟩ => rfl

/-- A channel's sum runs over batch and position. -/
theorem sums_apply (x : FVec Ideal S64x128x4096 .f32) (c : Fin 128) :
    sums x (ix3 0 c 0) = ∑ b : Fin 64, ∑ p : Fin 4096, x (ix3 b c p) := by
  have e : sums x (ix3 0 c 0) = ∑ i ∈ Finset.univ.filter (fun i => reducesTo_S64x128x4096_S128_d0_2.drop i = ix1 c), x i := by
    pointwise [sums]
    exact zero_add _
  rw [e,  ← Fintype.sum_prod_type (fun k : Fin 64 × Fin 4096 => x (ix3 k.1 c k.2))]
  refine Finset.sum_nbij' (fun i => (i 0, i 2)) (fun k => ix3 k.1 c k.2) (fun _ _ => Finset.mem_univ _) ?_ ?_ (fun _ _ => rfl) ?_
  · intro k _
    refine Finset.mem_filter.2 ⟨Finset.mem_univ _, ?_⟩
    funext a
    obtain rfl : a = 0 := Subsingleton.elim _ _
    rfl
  · intro i hi
    exact entry_of_drop i c (Finset.mem_filter.1 hi).2
  · intro i hi
    exact congrArg x (entry_of_drop i c (Finset.mem_filter.1 hi).2).symm

/-- An in-range token's index word is the token itself. -/
theorem wrapped_apply (v : IVec S64x4096 32) (b : Fin 64) (p : Fin 4096) (t : Fin 5) (h : v (ix2 b p) = BitVec.ofNat 32 t.val) :
    wrapped v (ix3 b p 0) = BitVec.ofNat 32 t.val := by
  pointwise [wrapped]
  rw [h]
  clear h
  revert t
  decide

/-- Where every token is a row of the table, every index word is. -/
theorem inside_apply (v : IVec S64x4096 32) (f : Fin 64 → Fin 4096 → Fin 5) (h : ∀ b p, v (ix2 b p) = BitVec.ofNat 32 (f b p).val)
    (b : Fin 64) (p : Fin 4096) : inside (wrapped v) (ix2 b p) = 1#1 := by
  refine Host.reduce_andi_one _ _ _ _ _ rfl fun i => ?_
  idx_vars i
  pointwise
  obtain rfl : i2 = 0 := Subsingleton.elim _ _
  rw [wrapped_apply v i0 i1 (f i0 i1) (h i0 i1)]
  generalize f i0 i1 = t
  revert t
  decide

/-- The picked array holds the token's row. -/
theorem picked_apply (v : IVec S64x4096 32) (e : FVec Ideal S5x128 .f32) (f : Fin 64 → Fin 4096 → Fin 5)
    (h : ∀ b p, v (ix2 b p) = BitVec.ofNat 32 (f b p).val) (b : Fin 64) (p : Fin 4096) (c : Fin 128) :
    picked v e (ix3 b c p) = e (ix2 (f b p) c) := by
  pointwise [picked]
  rw [inside_apply v f h, gather_row e _ b p c (f b p) (wrapped_apply v b p _ (h b p))]
  rfl

/-- A channel's mean at its one entry. -/
theorem means_apply (x : FVec Ideal S64x128x4096 .f32) (c : Fin 128) :
    means x (ix3 0 c 0) = Ideal.div (∑ b : Fin 64, ∑ p : Fin 4096, x (ix3 b c p)) (Ideal.ofBits .f32 0x48800000#32) := by
  pointwise [means]
  rw [sums_apply]

/-- An entry less its channel's mean. -/
theorem centred_apply (x : FVec Ideal S64x128x4096 .f32) (b : Fin 64) (c : Fin 128) (p : Fin 4096) :
    centred x (ix3 b c p) = x (ix3 b c p) - means x (ix3 0 c 0) := by
  pointwise [centred]

/-- The number of entries of a channel. -/
theorem entries_apply (i : S_.Idx) : entries i = Ideal.ofBits .f32 0x48800000#32 := by
  pointwise [entries]
  rw [show FloatOps.sitofp (F := Ideal) .f32 0#32 = ((0 : ℝ) : EReal) by simp [FloatOps.sitofp]]
  exact sub_zero _

/-- A channel has 64 batch rows of 4096 positions. -/
theorem size_eq : Ideal.ofBits .f32 0x48800000#32 = ((262144 : ℝ) : EReal) := by
  simp [Ideal.ofBits, Ideal.ieee, -EReal.coe_mul]
  norm_num

/-- A channel's variance at its one entry. -/
theorem variances_apply (x : FVec Ideal S64x128x4096 .f32) (c : Fin 128) :
    variances x (ix3 0 c 0)
      = Ideal.div (∑ b : Fin 64, ∑ p : Fin 4096, (x (ix3 b c p) - means x (ix3 0 c 0)) * (x (ix3 b c p) - means x (ix3 0 c 0)))
          (Ideal.ofBits .f32 0x48800000#32) := by
  pointwise [variances]
  rw [entries_apply, if_pos (by rw [size_eq]; exact_mod_cast (by norm_num : (0 : ℝ) < 262144)), sums_apply]
  simp only [mulf_apply, centred_apply]
  rfl

/-- A normalized entry. -/
theorem normed_apply (x : FVec Ideal S64x128x4096 .f32) (g s : FVec Ideal S128 .f32) (b : Fin 64) (c : Fin 128) (p : Fin 4096) :
    normed x g s (ix3 b c p)
      = Ideal.div (x (ix3 b c p) - means x (ix3 0 c 0)) (Ideal.sqrt (variances x (ix3 0 c 0) + Ideal.ofBits .f32 0x3727C5AC#32))
          * g (ix1 c) + s (ix1 c) := by
  pointwise [normed, along]
  rw [centred_apply]

/-- The result's place `(b, i, l)` is channel `i / 32` at position `(i % 32) * 128 + l`. -/
theorem regroup (y : FVec Ideal S64x128x4096 .f32) (b : Fin 64) (i : Fin 4096) (l : Fin 128) :
    shapeCast S64x4096x128 y shapeCasts_S64x128x4096_S64x4096x128 (ix3 b i l)
      = y (ix3 b ⟨i.val / 32, by omega⟩ ⟨i.val % 32 * 128 + l.val, by omega⟩) := by
  pointwise

end Cert.ReferenceIdeal.Rows

end
-- ==== Proof.Moments.lean ====
/- The mathematics of the certificate: a channel's mean and variance over all tokens are those of the five table entries
   weighted by how often each token id occurs, and scaling and shifting the table first gives the normalized entry. -/
module

public import proofs.«01_k».proof.Proof.Stats
public import proofs.«01_k».proof.Proof.RefRows

@[expose] public section

noncomputable section

namespace Cert.Moments

open Idealize.ShloMosaic Idealize.ShloMosaic.Tactic Cert.KernelIdeal.Stats

/-- A finite sum of reals, read as an extended real, is the sum of the readings. -/
theorem coe_sum {ι : Type} (s : Finset ι) (h : ι → ℝ) : ((∑ i ∈ s, h i : ℝ) : EReal) = ∑ i ∈ s, (h i : EReal) := by
  classical
  induction s using Finset.induction_on with
  | empty => simp
  | insert a s ha ih => rw [Finset.sum_insert ha, Finset.sum_insert ha, EReal.coe_add, ih]

/-- The same for a sum over batch and position. -/
theorem coe_sum₂ (h : Fin 64 → Fin 4096 → ℝ) :
    ((∑ b, ∑ p, h b p : ℝ) : EReal) = ∑ b : Fin 64, ∑ p : Fin 4096, (h b p : EReal) := by
  rw [coe_sum]
  exact Finset.sum_congr rfl fun b _ => coe_sum _ _

variable (f : Fin 64 → Fin 4096 → Fin 5)

/-- How often the id `t` occurs, a real number. -/
def times (t : Fin 5) : ℝ := ∑ b, ∑ p, if f b p = t then 1 else 0

/-- A quantity of the tokens' ids, summed over all tokens, is its sum over the ids weighted by how often each occurs. -/
theorem sum_by_id (h : Fin 5 → ℝ) : ∑ b, ∑ p, h (f b p) = ∑ t, times f t * h t := by
  have e : ∀ b p, h (f b p) = ∑ t, (if f b p = t then 1 else 0) * h t := by
    intro b p
    simp
  simp only [times, Finset.sum_mul]
  conv_rhs => rw [Finset.sum_comm]
  refine Finset.sum_congr rfl fun b _ => ?_
  rw [Finset.sum_comm]
  exact Finset.sum_congr rfl fun p _ => e b p

/-- The kernel's count is the real one. -/
theorem counts_eq (v : Vec Ideal Cert.KernelIdeal.S64x4096 .i32) (hv : ∀ b p, v (ix2 b p) = BitVec.ofNat 32 (f b p).val) (t : Fin 5) :
    counts v t = (times f t : EReal) := by
  unfold counts Cert.KernelIdeal.Stats.count times
  rw [coe_sum₂]
  refine Finset.sum_congr rfl fun b _ => Finset.sum_congr rfl fun p _ => ?_
  rw [hv]
  unfold mask
  generalize f b p = s
  have e : BitVec.ofNat 32 s.val = BitVec.ofNat 32 t.val ↔ s = t := by
    revert s t
    decide
  by_cases q : s = t
  · rw [if_pos (e.2 q), if_pos q]
    rfl
  · rw [if_neg (fun k => q (e.1 k)), if_neg q]
    rfl

/-- The kernel's weighted sum of five reals is the real sum over all tokens. -/
theorem five_eq (v : Vec Ideal Cert.KernelIdeal.S64x4096 .i32) (hv : ∀ b p, v (ix2 b p) = BitVec.ofNat 32 (f b p).val) (h : Fin 5 → ℝ) :
    five (counts v) (fun t => (h t : EReal)) = ((∑ b, ∑ p, h (f b p) : ℝ) : EReal) := by
  rw [sum_by_id, Fin.sum_univ_five]
  unfold five
  simp only [counts_eq f v hv]
  norm_cast

/-- The variance in the two ways: the mean of the squares less the squared mean, and the mean of the squared differences. -/
theorem variance_eq (h : Fin 64 → Fin 4096 → ℝ) (μ : ℝ) (hμ : μ = (∑ b, ∑ p, h b p) * (1 / 262144)) :
    (∑ b, ∑ p, h b p * h b p) * (1 / 262144) - μ * μ = (∑ b, ∑ p, (h b p - μ) * (h b p - μ)) * (1 / 262144) := by
  have e : ∀ b p, (h b p - μ) * (h b p - μ) = h b p * h b p - 2 * μ * h b p + μ * μ := fun b p => by ring
  simp only [e, Finset.sum_add_distrib, Finset.sum_sub_distrib, ← Finset.mul_sum, Finset.sum_const, Finset.card_univ, Fintype.card_fin, nsmul_eq_mul]
  generalize hS : (∑ b, ∑ p, h b p) = S at hμ ⊢
  rw [hμ]
  push_cast
  ring

/-- The small constant is a positive real. -/
theorem small_eq : ∃ ε : ℝ, 0 < ε ∧ Ideal.ofBits .f32 0x3727C5AC#32 = (ε : EReal) := by
  refine ⟨_, ?_, by simp [Ideal.ofBits, Ideal.ieee, -EReal.coe_mul]; rfl⟩
  positivity

/-- A real plus a difference whose subtrahend is real, regrouped. -/
theorem regroup (a c : ℝ) (β : EReal) : (a : EReal) + (β - (c : EReal)) = ((a - c : ℝ) : EReal) + β := by
  induction β with
  | bot => simp
  | top => rw [EReal.top_sub_coe, EReal.coe_add_top, EReal.coe_add_top]
  | coe r => norm_cast; ring

/-- A masked sum over the five ids picks the token's row. -/
theorem pick (t : Fin 5) (k : Fin 5 → EReal) : five (fun s => mask (BitVec.ofNat 32 s.val) (BitVec.ofNat 32 t.val)) k = k t := by
  have e : ∀ s : Fin 5, mask (BitVec.ofNat 32 s.val) (BitVec.ofNat 32 t.val) = if s = t then 1 else 0 := by
    intro s
    unfold mask
    have q : BitVec.ofNat 32 t.val = BitVec.ofNat 32 s.val ↔ s = t := by
      revert s t
      decide
    simp only [q]
  unfold five
  simp only [e]
  fin_cases t <;> simp

/-- The kernel's entry is the reference's: a table entry scaled and shifted by the weighted moments is the entry less the
    mean, over the deviation, times the scale, plus the shift. -/
theorem entry_eq (v : Vec Ideal Cert.KernelIdeal.S64x4096 .i32) (hv : ∀ b p, v (ix2 b p) = BitVec.ofNat 32 (f b p).val)
    (r : Fin 5 → ℝ) (γ : ℝ) (β : EReal) (t : Fin 5) (M V : EReal)
    (hM : M = Ideal.div (∑ b : Fin 64, ∑ p : Fin 4096, (r (f b p) : EReal)) (Ideal.ofBits .f32 0x48800000#32))
    (hV : V = Ideal.div (∑ b : Fin 64, ∑ p : Fin 4096, ((r (f b p) : EReal) - M) * ((r (f b p) : EReal) - M)) (Ideal.ofBits .f32 0x48800000#32)) :
    (r t : EReal) * scale v (fun s => (r s : EReal)) (γ : EReal) + (β - mean v (fun s => (r s : EReal)) * scale v (fun s => (r s : EReal)) (γ : EReal))
      = Ideal.div ((r t : EReal) - M) (Ideal.sqrt (V + Ideal.ofBits .f32 0x3727C5AC#32)) * (γ : EReal) + β := by
  obtain ⟨ε, hε, eε⟩ := small_eq
  have hn : (262144 : ℝ) ≠ 0 := by norm_num
  obtain ⟨μ, hμ⟩ : ∃ μ : ℝ, μ = (∑ b, ∑ p, r (f b p)) * (1 / 262144) := ⟨_, rfl⟩
  obtain ⟨w, hw⟩ : ∃ w : ℝ, w = (∑ b, ∑ p, (r (f b p) - μ) * (r (f b p) - μ)) * (1 / 262144) := ⟨_, rfl⟩
  have hM' : M = (μ : EReal) := by
    rw [hM, Cert.ReferenceIdeal.Rows.size_eq, Ideal.div_coe hn, ← coe_sum₂, hμ, EReal.coe_mul]
  have hV' : V = (w : EReal) := by
    rw [hV, Cert.ReferenceIdeal.Rows.size_eq, Ideal.div_coe hn, hM', hw, EReal.coe_mul, coe_sum₂]
    norm_cast
  have hw0 : 0 ≤ w := by
    rw [hw]
    exact mul_nonneg (Finset.sum_nonneg fun b _ => Finset.sum_nonneg fun p _ => mul_self_nonneg _) (by norm_num)
  have hm : mean v (fun s => (r s : EReal)) = (μ : EReal) := by
    unfold mean
    rw [five_eq f v hv, Cert.ReferenceIdeal.Rows.size_eq, Ideal.div_coe hn, hμ, EReal.coe_mul]
  have hs : scale v (fun s => (r s : EReal)) (γ : EReal) = ((γ * (Real.sqrt (w + ε))⁻¹ : ℝ) : EReal) := by
    unfold scale
    have e2 : (fun s => (r s : EReal) * (r s : EReal)) = fun s => ((r s * r s : ℝ) : EReal) := by
      funext s
      rw [EReal.coe_mul]
    rw [hm, e2, five_eq f v hv (fun s => r s * r s), Cert.ReferenceIdeal.Rows.size_eq, Ideal.div_coe hn, eε, ← EReal.coe_mul, ← EReal.coe_mul,
      ← EReal.coe_sub, variance_eq (fun b p => r (f b p)) μ hμ, ← hw, ← EReal.coe_add, Ideal.rsqrt_coe, if_neg (by linarith), if_neg (by linarith),
      ← EReal.coe_mul]
  have hd : Real.sqrt (w + ε) ≠ 0 := (Real.sqrt_pos.2 (by linarith)).ne'
  rw [hm, hs, hM', hV', eε, ← EReal.coe_add, Ideal.sqrt_coe, if_neg (by linarith), Ideal.div_coe hd, ← EReal.coe_sub, ← EReal.coe_mul, ← EReal.coe_mul,
    ← EReal.coe_mul, ← EReal.coe_mul, regroup]
  congr 2
  rw [one_div]
  ring

end Cert.Moments

end
-- ==== Proof.Domain.lean ====
/- What the precondition says: every token is a row of the table, and the table and the scales are real numbers. -/
module

public import proofs.«01_k».proof.Pre_tokens_and_finite
public import Idealize.ShloMosaic.Lib.Pointwise
public import Idealize.ShloMosaic.Lib.ReduceAll

@[expose] public section

set_option maxRecDepth 16384

noncomputable section

namespace Cert.Domain

open Idealize.ShloMosaic Idealize.ShloMosaic.Tactic Cert.Pre_tokens_and_finite

/-- The conditions on shapes that the precondition's text takes. -/
theorem facts : Facts where
  bcast_S_S64x4096 := by decide
  reducesTo_S64x4096_S_d0_1 := by decide
  h_S_ := by decide
  bcast_S_S5x128 := by decide
  reducesTo_S5x128_S_d0_1 := by decide
  bcast_S_S128 := by decide
  reducesTo_S128_S_d0 := by decide

/-- A word that is at least zero and below five, read signed, is one of the five ids. -/
theorem id_of_range (w : BitVec 32) (h0 : IntOp.cmpi .sge w 0#32 = 1#1) (h5 : IntOp.cmpi .slt w 5#32 = 1#1) :
    ∃ t : Fin 5, w = BitVec.ofNat 32 t.val := by
  have e : w.toNat < 5 := by
    have a : (0#32).sle w = true := by
      cases q : (0#32).sle w
      · rw [show IntOp.cmpi .sge w 0#32 = BitVec.ofBool ((0#32).sle w) from rfl, q] at h0
        exact absurd h0 (by decide)
      · rfl
    have b : w.slt 5#32 = true := by
      cases q : w.slt 5#32
      · rw [show IntOp.cmpi .slt w 5#32 = BitVec.ofBool (w.slt 5#32) from rfl, q] at h5
        exact absurd h5 (by decide)
      · rfl
    have a' := BitVec.sle_iff_toInt_le.1 a
    have b' := BitVec.slt_iff_toInt_lt.1 b
    rw [show (0#32).toInt = 0 from rfl] at a'
    rw [show (5#32).toInt = 5 from rfl] at b'
    rw [BitVec.toInt_eq_toNat_cond] at a' b'
    have := w.isLt
    split at a' <;> omega
  exact ⟨⟨w.toNat, e⟩, by simp⟩

/-- An extended real whose absolute value is below infinity is a real. -/
theorem real_of_finite (x : EReal) (h : FloatOps.cmpf (F := Ideal) (φ := .f32) .olt (max x (-x)) (Ideal.ofBits .f32 0x7F800000#32) = 1#1) :
    ∃ r : ℝ, x = (r : EReal) := by
  have ht : Ideal.ofBits .f32 0x7F800000#32 = (⊤ : EReal) := by simp [Ideal.ofBits, Ideal.ieee]
  have hl : max x (-x) < ⊤ := by
    by_contra q
    rw [ht, show FloatOps.cmpf (F := Ideal) (φ := .f32) .olt (max x (-x)) ⊤ = BitVec.ofBool (decide (max x (-x) < ⊤)) from rfl,
      decide_eq_false q] at h
    exact absurd h (by decide)
  induction x with
  | bot => exact absurd hl (by simp)
  | top => exact absurd hl (by simp)
  | coe r => exact ⟨r, rfl⟩

/-- The precondition, read. -/
theorem of_pre [Facts] (v : IVec S64x4096 32) (e : FVec Ideal S5x128 .f32) (g b : FVec Ideal S128 .f32)
    (h : fn (F := Ideal) v e g b = fun _ => 1#1) :
    (∀ i, ∃ t : Fin 5, v i = BitVec.ofNat 32 t.val) ∧ (∀ i, ∃ r : ℝ, e i = (r : EReal)) ∧ ∀ i, ∃ r : ℝ, g i = (r : EReal) := by
  have : Subsingleton S_.Idx := ⟨fun a b => funext fun k => k.elim0⟩
  have h' := congrFun h ix0
  unfold fn at h'
  obtain ⟨h1, hg⟩ := IntOp.andi_eq_one.1 h'
  obtain ⟨hv, he⟩ := IntOp.andi_eq_one.1 h1
  refine ⟨fun i => ?_, fun i => ?_, fun i => ?_⟩
  · obtain ⟨a, b⟩ := IntOp.andi_eq_one.1 (Host.reduce_andi_all _ _ _ _ _ hv i)
    exact id_of_range _ a b
  · exact real_of_finite _ (Host.reduce_andi_all _ _ _ _ _ he i)
  · exact real_of_finite _ (Host.reduce_andi_all _ _ _ _ _ hg i)

end Cert.Domain

end
-- ==== Proof.Agree.lean ====
/- The kernel's output array is the reference's, under the precondition. -/
module

public import proofs.«01_k».proof.Proof.KernelRun
public import proofs.«01_k».proof.Proof.Moments
public import proofs.«01_k».proof.Proof.Domain

@[expose] public section

set_option maxRecDepth 16384

noncomputable section

namespace Cert.Agree

open Idealize.ShloMosaic Idealize.ShloMosaic.TcCoe Idealize.ShloMosaic.Tactic Cert.KernelIdeal.Stats

/-- One entry of the scaled table, the arrays read at the entry's channel. -/
theorem tableOf_entry (v : Vec Ideal Cert.KernelIdeal.S64x4096 .i32) (e : Vec Ideal Cert.KernelIdeal.S8x128 .f32)
    (g b : Vec Ideal Cert.KernelIdeal.S1x128 .f32) (k : Fin 5 → EReal) (γ β : EReal) (c : Fin 128) (he : ∀ t, e (ix2 (row t) c) = k t)
    (hg : g (ix2 0 c) = γ) (hb : b (ix2 0 c) = β) (t : Fin 5) :
    Cert.KernelIdeal.Arrays.tableOf v e g b (ix2 (row t) c) = k t * scale v k γ + (β - mean v k * scale v k γ) := by
  have e' : (fun s => e (ix2 (row s) c)) = k := funext he
  show e (ix2 (row t) c) * scale v (fun s => e (ix2 (row s) c)) (g (ix2 0 c))
    + (b (ix2 0 c) - mean v (fun s => e (ix2 (row s) c)) * scale v (fun s => e (ix2 (row s) c)) (g (ix2 0 c))) = _
  rw [e', hg, hb, he]

/-- One entry of the kernel's output: the scaled table's row of the token there. -/
theorem denseOf_entry (v : Vec Ideal Cert.KernelIdeal.S64x32x128 .i32) (tn : Vec Ideal Cert.KernelIdeal.S8x128 .f32) (b : Fin 64)
    (i : Fin 4096) (l : Fin 128) (t : Fin 5) (h : v (ix3 b ⟨i.val % 32, Nat.mod_lt _ (by decide)⟩ l) = BitVec.ofNat 32 t.val) :
    Cert.KernelIdeal.Arrays.denseOf v tn (ix3 b i l) = tn (ix2 (row t) ⟨i.val / 32, by omega⟩) := by
  show five (fun s => mask (BitVec.ofNat 32 s.val) (v (ix3 b ⟨i.val % 32, Nat.mod_lt _ (by decide)⟩ l)))
    (fun s => tn (ix2 (row s) ⟨i.val / 32, by omega⟩)) = _
  rw [h]
  exact Cert.Moments.pick t fun s => tn (ix2 (row s) ⟨i.val / 32, by omega⟩)

/-- One entry of the reference's result, over the table's rows at the tokens. -/
theorem reference_entry (v : IVec Cert.ReferenceIdeal.S64x4096 32) (e : FVec Ideal Cert.ReferenceIdeal.S5x128 .f32)
    (g s : FVec Ideal Cert.ReferenceIdeal.S128 .f32) (f : Fin 64 → Fin 4096 → Fin 5) (hf : ∀ b p, v (ix2 b p) = BitVec.ofNat 32 (f b p).val)
    (r : Fin 5 → ℝ) (γ : ℝ) (b : Fin 64) (c : Fin 128) (p : Fin 4096) (he : ∀ t, e (ix2 t c) = (r t : EReal)) (hg : g (ix1 c) = (γ : EReal)) :
    Cert.ReferenceIdeal.Rows.normed (Cert.ReferenceIdeal.Rows.picked v e) g s (ix3 b c p)
      = (r (f b p) : EReal) * scale v (fun t => (r t : EReal)) (γ : EReal)
        + (s (ix1 c) - mean v (fun t => (r t : EReal)) * scale v (fun t => (r t : EReal)) (γ : EReal)) := by
  have hp : ∀ b p, Cert.ReferenceIdeal.Rows.picked v e (ix3 b c p) = (r (f b p) : EReal) := fun b p =>
    (Cert.ReferenceIdeal.Rows.picked_apply v e f hf b p c).trans (he _)
  have hM := Cert.ReferenceIdeal.Rows.means_apply (Cert.ReferenceIdeal.Rows.picked v e) c
  have hV := Cert.ReferenceIdeal.Rows.variances_apply (Cert.ReferenceIdeal.Rows.picked v e) c
  simp only [hp] at hM hV
  rw [Cert.ReferenceIdeal.Rows.normed_apply, hp, hg]
  exact (Cert.Moments.entry_eq f v hf r γ (s (ix1 c)) (f b p) _ _ hM hV).symm

/-- From memories that agree on the arguments and meet the precondition, the two programs' results are one array. -/
theorem results_eq [Cert.Pre_tokens_and_finite.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (d : Dev Cert.KernelIdeal.nD)
    (v : IVec Cert.ReferenceIdeal.S64x4096 32) (e : FVec Ideal Cert.ReferenceIdeal.S5x128 .f32) (g s : FVec Ideal Cert.ReferenceIdeal.S128 .f32)
    (hpre : Cert.Pre_tokens_and_finite.fn (F := Ideal) v e g s = fun _ => 1#1)
    (h0 : m ((d : Thread Cert.KernelIdeal.nD Cert.KernelIdeal.τ).loc Cert.KernelIdeal.main_arg0) = v)
    (h1 : m ((d : Thread Cert.KernelIdeal.nD Cert.KernelIdeal.τ).loc Cert.KernelIdeal.main_arg1) = e)
    (h2 : m ((d : Thread Cert.KernelIdeal.nD Cert.KernelIdeal.τ).loc Cert.KernelIdeal.main_arg2) = g)
    (h3 : m ((d : Thread Cert.KernelIdeal.nD Cert.KernelIdeal.τ).loc Cert.KernelIdeal.main_arg3) = s)
    (h0' : m' ((d : Thread Cert.ReferenceIdeal.nD Cert.ReferenceIdeal.τ).loc Cert.ReferenceIdeal.main_arg0) = v)
    (h1' : m' ((d : Thread Cert.ReferenceIdeal.nD Cert.ReferenceIdeal.τ).loc Cert.ReferenceIdeal.main_arg1) = e)
    (h2' : m' ((d : Thread Cert.ReferenceIdeal.nD Cert.ReferenceIdeal.τ).loc Cert.ReferenceIdeal.main_arg2) = g)
    (h3' : m' ((d : Thread Cert.ReferenceIdeal.nD Cert.ReferenceIdeal.τ).loc Cert.ReferenceIdeal.main_arg3) = s) :
    Cert.ReferenceIdeal.Value.res_out0 m' d = Cert.KernelIdeal.KernelRun.result m ρ d := by
  obtain ⟨hv, he, hg⟩ := Cert.Domain.of_pre v e g s hpre
  have hv' : ∀ b p, ∃ t : Fin 5, v (ix2 b p) = BitVec.ofNat 32 t.val := fun b p => hv (ix2 b p)
  choose f hf using hv'
  rw [Cert.ReferenceIdeal.Rows.result_eq, h0', h1', h2', h3']
  funext i
  obtain ⟨b, k, l, rfl⟩ : ∃ (b : Fin 64) (k : Fin 4096) (l : Fin 128), i = ix3 b k l := by
    idx_vars i
    exact ⟨_, _, _, rfl⟩
  refine (Cert.ReferenceIdeal.Rows.regroup _ b k l).trans ?_
  have he' : ∀ t : Fin 5, ∃ r : ℝ, e (ix2 t ⟨k.val / 32, by omega⟩) = (r : EReal) := fun t => he _
  choose r hr using he'
  obtain ⟨γ, hγ⟩ := hg (ix1 ⟨k.val / 32, by omega⟩)
  rw [reference_entry v e g s f hf r γ b _ _ hr hγ]
  refine Eq.symm ((denseOf_entry _ _ b k l (f b ⟨k.val % 32 * 128 + l.val, by omega⟩) ?_).trans ?_)
  · exact (Cert.KernelIdeal.HostRows.entry_grouped m ρ d b _ l).trans ((congrFun h0 _).trans (hf _ _))
  · rw [Cert.KernelIdeal.HostRows.entry_tokens, h0]
    exact tableOf_entry v _ _ _ (fun t => (r t : EReal)) (γ : EReal) _ _
      (fun t => (Cert.KernelIdeal.HostRows.entry_table m ρ d t _).trans ((congrFun h1 _).trans (hr t)))
      ((Cert.KernelIdeal.HostRows.entry_gamma m ρ d _).trans ((congrFun h2 _).trans hγ))
      ((Cert.KernelIdeal.HostRows.entry_beta m ρ d _).trans (congrFun h3 _)) _

end Cert.Agree

end
-- ==== Proof.lean ====
/- The certificate's claim: the kernel's frame and its idealization's, the reference's frame, and the algebraic equality of
   the two results under the precondition. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The idealized kernel's frame. -/
theorem kernelFrame : Cert.quiescent_KernelIdeal (hKernelIdeal := Cert.KernelIdeal.Gen.facts) :=
  fun m g _ => Cert.KernelIdeal.Gen.frame m g

/-- The reference's frame: its run leaves the arguments, and it has no semaphore. -/
theorem referenceFrame : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩) (Cert.ReferenceIdeal.Value.run (F := Ideal) m g)

/-- The kernel computes the reference's result wherever the precondition holds. -/
theorem algebraic : Cert.algebraic_KernelIdeal_ReferenceIdeal_pre_tokens_and_finite (hKernelIdeal := Cert.KernelIdeal.Gen.facts)
    (hReferenceIdeal := Cert.ReferenceIdeal.Gen.facts) (hPre_tokens_and_finite := Cert.Domain.facts) := by
  intro m g m' g' hpre hagree
  have := Cert.Domain.facts
  refine ⟨fun c => Cert.KernelIdeal.KernelRun.result m g c, Cert.KernelIdeal.KernelRun.run m g, ?_⟩
  refine (θ_run Cert.ReferenceIdeal.defs _ _).mono (fun r h c => ⟨(h c).1.trans ?_, (h c).2⟩)
    (Cert.ReferenceIdeal.Value.run (F := Ideal) m' g')
  obtain ⟨a0, a1, a2, a3⟩ := hagree c
  exact Cert.Agree.results_eq m g m' c _ _ _ _ (hpre c) rfl rfl rfl rfl a0 a1 a2 a3

/-- Everything the certificate claims. -/
theorem claim : Cert.Claim :=
  ⟨Cert.Kernel.Gen.facts, Cert.KernelIdeal.Gen.facts, Cert.ReferenceIdeal.Gen.facts, Cert.Domain.facts,
    fun m g _ => Cert.Kernel.Gen.frame m g, kernelFrame, fun m g _ => kernelFrame m g trivial, referenceFrame,
    fun m g _ => referenceFrame m g trivial, trivial, algebraic⟩

end Cert.Proof

end
